-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x640x1024 : Shape := ⟨3, ![3, 640, 1024]⟩
abbrev S3x640x8 : Shape := ⟨3, ![3, 640, 8]⟩
abbrev S3x8x640 : Shape := ⟨3, ![3, 8, 640]⟩
abbrev S3x640x2048 : Shape := ⟨3, ![3, 640, 2048]⟩
abbrev S3x16x640 : Shape := ⟨3, ![3, 16, 640]⟩
abbrev S1024x2048 : Shape := ⟨2, ![1024, 2048]⟩
abbrev S1024 : Shape := ⟨1, ![1024]⟩
abbrev S1x1024 : Shape := ⟨2, ![1, 1024]⟩
abbrev S1024x1024 : Shape := ⟨2, ![1024, 1024]⟩
abbrev S1x640x1024 : Shape := ⟨3, ![1, 640, 1024]⟩
abbrev S1x8x640 : Shape := ⟨3, ![1, 8, 640]⟩
abbrev S1x640x2048 : Shape := ⟨3, ![1, 640, 2048]⟩
abbrev S1x16x640 : Shape := ⟨3, ![1, 16, 640]⟩
abbrev S640x1024 : Shape := ⟨2, ![640, 1024]⟩
abbrev S640x2048 : Shape := ⟨2, ![640, 2048]⟩
abbrev S1x128x128 : Shape := ⟨3, ![1, 128, 128]⟩
abbrev S128x128 : Shape := ⟨2, ![128, 128]⟩
abbrev S1x1x128 : Shape := ⟨3, ![1, 1, 128]⟩
abbrev S1x128 : Shape := ⟨2, ![1, 128]⟩

abbrev nBuf : Space → Nat
  | .hbm => 16
  | .vmem => 24
  | .smem => 0
  | _ => 0

abbrev bufTy : (tb : Table) → Fin (tcTables nBuf tb) → BufTy
  | .hbm, ⟨0, _⟩ => ⟨S3x640x1024, .fp8e5m2⟩
  | .hbm, ⟨1, _⟩ => ⟨S3x640x8, .f32⟩
  | .hbm, ⟨2, _⟩ => ⟨S3x640x1024, .fp8e4m3⟩
  | .hbm, ⟨3, _⟩ => ⟨S3x640x8, .f32⟩
  | .hbm, ⟨4, _⟩ => ⟨S3x640x1024, .fp8e4m3⟩
  | .hbm, ⟨5, _⟩ => ⟨S3x8x640, .f32⟩
  | .hbm, ⟨6, _⟩ => ⟨S3x640x2048, .fp8e5m2⟩
  | .hbm, ⟨7, _⟩ => ⟨S3x16x640, .f32⟩
  | .hbm, ⟨8, _⟩ => ⟨S1024x2048, .fp8e4m3⟩
  | .hbm, ⟨9, _⟩ => ⟨S1024, .f32⟩
  | .hbm, ⟨10, _⟩ => ⟨S3x8x640, .f32⟩
  | .hbm, ⟨11, _⟩ => ⟨S3x8x640, .f32⟩
  | .hbm, ⟨12, _⟩ => ⟨S1x1024, .f32⟩
  | .hbm, ⟨13, _⟩ => ⟨S3x640x1024, .bf16⟩
  | .hbm, ⟨14, _⟩ => ⟨S1024x2048, .f32⟩
  | .hbm, ⟨15, _⟩ => ⟨S1024x1024, .f32⟩
  | .local _ .vmem, ⟨0, _⟩ => ⟨S1x640x1024, .fp8e5m2⟩
  | .local _ .vmem, ⟨1, _⟩ => ⟨S1x640x1024, .fp8e5m2⟩
  | .local _ .vmem, ⟨2, _⟩ => ⟨S1x8x640, .f32⟩
  | .local _ .vmem, ⟨3, _⟩ => ⟨S1x8x640, .f32⟩
  | .local _ .vmem, ⟨4, _⟩ => ⟨S1x640x1024, .fp8e4m3⟩
  | .local _ .vmem, ⟨5, _⟩ => ⟨S1x640x1024, .fp8e4m3⟩
  | .local _ .vmem, ⟨6, _⟩ => ⟨S1x8x640, .f32⟩
  | .local _ .vmem, ⟨7, _⟩ => ⟨S1x8x640, .f32⟩
  | .local _ .vmem, ⟨8, _⟩ => ⟨S1x640x1024, .fp8e4m3⟩
  | .local _ .vmem, ⟨9, _⟩ => ⟨S1x640x1024, .fp8e4m3⟩
  | .local _ .vmem, ⟨10, _⟩ => ⟨S1x8x640, .f32⟩
  | .local _ .vmem, ⟨11, _⟩ => ⟨S1x8x640, .f32⟩
  | .local _ .vmem, ⟨12, _⟩ => ⟨S1x640x2048, .fp8e5m2⟩
  | .local _ .vmem, ⟨13, _⟩ => ⟨S1x640x2048, .fp8e5m2⟩
  | .local _ .vmem, ⟨14, _⟩ => ⟨S1x16x640, .f32⟩
  | .local _ .vmem, ⟨15, _⟩ => ⟨S1x16x640, .f32⟩
  | .local _ .vmem, ⟨16, _⟩ => ⟨S1024x2048, .fp8e4m3⟩
  | .local _ .vmem, ⟨17, _⟩ => ⟨S1x1024, .f32⟩
  | .local _ .vmem, ⟨18, _⟩ => ⟨S1x640x1024, .bf16⟩
  | .local _ .vmem, ⟨19, _⟩ => ⟨S1x640x1024, .bf16⟩
  | .local _ .vmem, ⟨20, _⟩ => ⟨S1024x2048, .f32⟩
  | .local _ .vmem, ⟨21, _⟩ => ⟨S1024x1024, .f32⟩
  | .local _ .vmem, ⟨22, _⟩ => ⟨S640x1024, .bf16⟩
  | .local _ .vmem, ⟨23, _⟩ => ⟨S640x2048, .bf16⟩
  | _, _ => ⟨S3x640x1024, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x640x1024 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x640x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x640x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x640x2048 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x2048 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x640x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S3x640x1024 : Shape := ⟨3, ![3, 640, 1024]⟩
abbrev S3x640x8 : Shape := ⟨3, ![3, 640, 8]⟩
abbrev S3x8x640 : Shape := ⟨3, ![3, 8, 640]⟩
abbrev S3x640x2048 : Shape := ⟨3, ![3, 640, 2048]⟩
abbrev S3x16x640 : Shape := ⟨3, ![3, 16, 640]⟩
abbrev S1024x2048 : Shape := ⟨2, ![1024, 2048]⟩
abbrev S1024 : Shape := ⟨1, ![1024]⟩
abbrev S3x640x16 : Shape := ⟨3, ![3, 640, 16]⟩
abbrev S1024x1024 : Shape := ⟨2, ![1024, 1024]⟩
abbrev S3x640x8x128 : Shape := ⟨4, ![3, 640, 8, 128]⟩
abbrev S3x640x8x1 : Shape := ⟨4, ![3, 640, 8, 1]⟩
abbrev S1920x1024 : Shape := ⟨2, ![1920, 1024]⟩
abbrev S1024x1920 : Shape := ⟨2, ![1024, 1920]⟩
abbrev S3x640x16x128 : Shape := ⟨4, ![3, 640, 16, 128]⟩
abbrev S3x640x16x1 : Shape := ⟨4, ![3, 640, 16, 1]⟩
abbrev S1x1x1024 : Shape := ⟨3, ![1, 1, 1024]⟩
abbrev S1920x2048 : Shape := ⟨2, ![1920, 2048]⟩

abbrev nBuf : Space → Nat
  | .hbm => 15
  | .vmem => 13
  | .smem => 0
  | _ => 0

abbrev bufTy : (tb : Table) → Fin (tcTables nBuf tb) → BufTy
  | .hbm, ⟨0, _⟩ => ⟨S3x640x1024, .fp8e5m2⟩
  | .hbm, ⟨1, _⟩ => ⟨S3x640x8, .f32⟩
  | .hbm, ⟨2, _⟩ => ⟨S3x640x1024, .fp8e4m3⟩
  | .hbm, ⟨3, _⟩ => ⟨S3x640x8, .f32⟩
  | .hbm, ⟨4, _⟩ => ⟨S3x640x1024, .fp8e4m3⟩
  | .hbm, ⟨5, _⟩ => ⟨S3x8x640, .f32⟩
  | .hbm, ⟨6, _⟩ => ⟨S3x640x2048, .fp8e5m2⟩
  | .hbm, ⟨7, _⟩ => ⟨S3x16x640, .f32⟩
  | .hbm, ⟨8, _⟩ => ⟨S1024x2048, .fp8e4m3⟩
  | .hbm, ⟨9, _⟩ => ⟨S1024, .f32⟩
  | .hbm, ⟨10, _⟩ => ⟨S3x640x8, .f32⟩
  | .hbm, ⟨11, _⟩ => ⟨S3x640x16, .f32⟩
  | .hbm, ⟨12, _⟩ => ⟨S3x640x1024, .bf16⟩
  | .hbm, ⟨13, _⟩ => ⟨S1024x2048, .f32⟩
  | .hbm, ⟨14, _⟩ => ⟨S1024x1024, .f32⟩
  | .local _ .vmem, ⟨0, _⟩ => ⟨S3x640x1024, .fp8e5m2⟩
  | .local _ .vmem, ⟨1, _⟩ => ⟨S3x640x8, .f32⟩
  | .local _ .vmem, ⟨2, _⟩ => ⟨S3x640x1024, .fp8e4m3⟩
  | .local _ .vmem, ⟨3, _⟩ => ⟨S3x640x8, .f32⟩
  | .local _ .vmem, ⟨4, _⟩ => ⟨S3x640x1024, .fp8e4m3⟩
  | .local _ .vmem, ⟨5, _⟩ => ⟨S3x640x8, .f32⟩
  | .local _ .vmem, ⟨6, _⟩ => ⟨S3x640x2048, .fp8e5m2⟩
  | .local _ .vmem, ⟨7, _⟩ => ⟨S3x640x16, .f32⟩
  | .local _ .vmem, ⟨8, _⟩ => ⟨S1024x2048, .fp8e4m3⟩
  | .local _ .vmem, ⟨9, _⟩ => ⟨S1024, .f32⟩
  | .local _ .vmem, ⟨10, _⟩ => ⟨S3x640x1024, .bf16⟩
  | .local _ .vmem, ⟨11, _⟩ => ⟨S1024x2048, .f32⟩
  | .local _ .vmem, ⟨12, _⟩ => ⟨S1024x1024, .f32⟩
  | _, _ => ⟨S3x640x1024, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S3x640x1024 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x640x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x640x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x640x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x640x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x640x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x640x2048 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x640x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x2048 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x640x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Spec.lean ====
/-
  THE THREE GRADIENTS AS SUMS. The mathematics that the kernel and the reference share, over the extended reals and with
  no program in sight: an fp8 code times the scale of its group of 128 columns is a widened entry; `dx` is the widened
  gradient times the transposed weights and the weights' own row scales; `dw1` and `dw2` are sums, over the three blocks
  of 640 tokens, of products of two widened entries. The scales are given as functions of (block, group, token).
-/
module

public import Idealize.ShloMosaic.Lib.Pointwise
public import Idealize.ShloMosaic.Lib.Pipeline.ValueKit

@[expose] public section

noncomputable section

namespace Cert.Proof

open Idealize.ShloMosaic
open scoped BigOperators

/-- Indices of an array of rank three, two, one. -/
abbrev I3 (a b c : ℕ) : Type := (⟨3, ![a, b, c]⟩ : Shape).Idx
abbrev I2 (a b : ℕ) : Type := (⟨2, ![a, b]⟩ : Shape).Idx
abbrev I1 (a : ℕ) : Type := (⟨1, ![a]⟩ : Shape).Idx

/-- The scale group (of 128 columns) that a column of a 1024-wide array belongs to; -/
abbrev grp8 (j : Fin 1024) : Fin 8 := ⟨j.val / 128, by omega⟩
/-- the same for a 2048-wide array. -/
abbrev grp16 (j : Fin 2048) : Fin 16 := ⟨j.val / 128, by omega⟩

/-- Scales given as a function of (block, token, group), as a function of (block, group, token). -/
def groupsFirst (σ : I3 3 640 8 → EReal) : I3 3 8 640 → EReal := fun i => σ (ix3 (i 0) (i 2) (i 1))

/-- A widened entry of a 1024-wide array: code times the scale of the token's group. -/
def wide8 (x : I3 3 640 1024 → EReal) (σ : I3 3 8 640 → EReal) (b : Fin 3) (t : Fin 640) (j : Fin 1024) : EReal :=
  x (ix3 b t j) * σ (ix3 b (grp8 j) t)

/-- A widened entry of a 2048-wide array. -/
def wide16 (x : I3 3 640 2048 → EReal) (σ : I3 3 16 640 → EReal) (b : Fin 3) (t : Fin 640) (j : Fin 2048) : EReal :=
  x (ix3 b t j) * σ (ix3 b (grp16 j) t)

/-- `dx`: the widened gradient against row `i` of the weights' codes, times that row's scale. -/
def dxSum (a : I3 3 640 2048 → EReal) (σa : I3 3 16 640 → EReal) (w : I2 1024 2048 → EReal) (ws : I1 1024 → EReal) :
    I3 3 640 1024 → EReal :=
  fun y => (∑ j : Fin 2048, wide16 a σa (y 0) (y 1) j * w (ix2 (y 2) j)) * ws (ix1 (y 2))

/-- `dw1`: over all tokens, the widened input's column times the widened gradient's. -/
def dw1Sum (x : I3 3 640 1024 → EReal) (σx : I3 3 8 640 → EReal) (a : I3 3 640 2048 → EReal) (σa : I3 3 16 640 → EReal) :
    I2 1024 2048 → EReal :=
  fun y => ∑ b : Fin 3, ∑ t : Fin 640, wide8 x σx b t (y 0) * wide16 a σa b t (y 1)

/-- `dw2`: over all tokens, the widened activation's column times the widened output gradient's. -/
def dw2Sum (s : I3 3 640 1024 → EReal) (σs : I3 3 8 640 → EReal) (d : I3 3 640 1024 → EReal) (σd : I3 3 8 640 → EReal) :
    I2 1024 1024 → EReal :=
  fun y => ∑ b : Fin 3, ∑ t : Fin 640, wide8 s σs b t (y 0) * wide8 d σd b t (y 1)

/-- A sum over the 1920 tokens in one row is the sum over the three blocks of the sums over their 640 tokens. -/
theorem sum_tokens (f : Fin 3 → Fin 640 → EReal) :
    ∑ k : Fin 1920, f ⟨k.val / 640, by omega⟩ ⟨k.val % 640, by omega⟩ = ∑ b : Fin 3, ∑ t : Fin 640, f b t := by
  rw [← Fintype.sum_prod_type' (f := f)]
  refine Fintype.sum_equiv (finProdFinEquiv (m := 3) (n := 640)).symm _ _ fun k => ?_
  rfl

end Cert.Proof

end
-- ==== Proof.RefValue.lean ====
/-
  WHAT THE REFERENCE COMPUTES. Its one launch has one grid point and whole-array blocks; each of its three result arrays
  is the payload of one store, read at an index: the sums of Spec.lean, once the reference's 1920-row products are read
  as three blocks of 640 rows.
-/
module

public import proofs.«01_k».proof.Proof.Spec
public import proofs.«01_k».proof.Proof.Gen.ReferenceIdeal.Value

@[expose] public section

set_option maxRecDepth 16384

noncomputable section

namespace Cert.Proof.Ref

open Cert.ReferenceIdeal Cert.ReferenceIdeal.Gen Idealize.ShloMosaic Idealize.ShloMosaic.TcCoe Idealize.SL.Sem
open scoped BigOperators

/-- The `dw2` payload at an index. -/
theorem pay3_apply (v0 : Vec Ideal S3x640x1024 .fp8e5m2) (v1 : Vec Ideal S3x640x8 .f32) (v9 : Vec Ideal S3x640x1024 .fp8e4m3)
    (v10 : Vec Ideal S3x640x8 .f32) (y : S1024x1024.Idx) :
    k0_pay3 v0 v1 v9 v10 y = ∑ b : Fin 3, ∑ t : Fin 640,
      (v9 (ix3 b t (y 0)) * v10 (ix3 b t (grp8 (y 0)))) * (v0 (ix3 b t (y 1)) * v1 (ix3 b t (grp8 (y 1)))) := by
  rw [← sum_tokens]
  pointwise [k0_pay3]

/-- The `dw1` payload at an index, over the widened gradient it shares with `dx`. -/
theorem pay2_apply (v24 : Vec Ideal S3x640x2048 .fp8e5m2) (v25 : Vec Ideal S3x640x16 .f32) (v43 : Vec Ideal S3x640x1024 .fp8e4m3)
    (v44 : Vec Ideal S3x640x8 .f32) (y : S1024x2048.Idx) :
    k0_pay2 (k0_pay4 v24 v25) v43 v44 y = ∑ b : Fin 3, ∑ t : Fin 640,
      (v43 (ix3 b t (y 0)) * v44 (ix3 b t (grp8 (y 0)))) * (v24 (ix3 b t (y 1)) * v25 (ix3 b t (grp16 (y 1)))) := by
  rw [← sum_tokens]
  pointwise [k0_pay2, k0_pay4]

/-- The `dx` payload at an index. -/
theorem pay1_apply (v24 : Vec Ideal S3x640x2048 .fp8e5m2) (v25 : Vec Ideal S3x640x16 .f32) (v34 : Vec Ideal S1024x2048 .fp8e4m3)
    (v37 : Vec Ideal S1024 .f32) (y : S3x640x1024.Idx) :
    k0_pay1 (k0_pay4 v24 v25) (k0_pay5 v34) v37 y =
      (∑ j : Fin 2048, (v24 (ix3 (y 0) (y 1) j) * v25 (ix3 (y 0) (y 1) (grp16 j))) * v34 (ix2 (y 2) j)) * v37 (ix1 (y 2)) := by
  pointwise [k0_pay1, k0_pay4, k0_pay5]

variable (m : (ℓ : Loc nD τ sig) → Buf (Elt Ideal) ℓ)

/-- At the one grid point every window's block is block zero. -/
theorem idx : win0_0.index t0_0 = ![0, 0, 0] ∧ win0_1.index t0_0 = ![0, 0, 0] ∧ win0_2.index t0_0 = ![0, 0, 0]
    ∧ win0_3.index t0_0 = ![0, 0, 0] ∧ win0_4.index t0_0 = ![0, 0, 0] ∧ win0_5.index t0_0 = ![0, 0, 0]
    ∧ win0_6.index t0_0 = ![0, 0, 0] ∧ win0_7.index t0_0 = ![0, 0, 0] ∧ win0_8.index t0_0 = ![0, 0]
    ∧ win0_9.index t0_0 = ![0] := by decide +kernel

/-- The result array `dx` of the reference is the sum of Spec.lean. -/
theorem arr10 (c : Dev nD) :
    (dats m 0 c).arrAt 10 cfg0.N = dxSum (m ((c : Thread nD τ).loc main_arg6)) (m ((c : Thread nD τ).loc main_arg7))
      (m ((c : Thread nD τ).loc main_arg8)) (m ((c : Thread nD τ).loc main_arg9)) := by
  refine (dats m 0 c).arrAt_eq_of_after_last 10 t0_0 (by decide +kernel) _ fun j => ?_
  blk_simp
  rw [after0_10]
  frame_out
  unfold k0_pay6
  frame_out
  refine (pay1_apply _ _ _ _ _).trans ?_
  unfold dxSum wide16
  blk_point [iblk, V, idx]

/-- The result array `dw1`. -/
theorem arr11 (c : Dev nD) :
    (dats m 0 c).arrAt 11 cfg0.N = dw1Sum (m ((c : Thread nD τ).loc main_arg2))
      (groupsFirst (m ((c : Thread nD τ).loc main_arg3)))
      (m ((c : Thread nD τ).loc main_arg6)) (m ((c : Thread nD τ).loc main_arg7)) := by
  refine (dats m 0 c).arrAt_eq_of_after_last 11 t0_0 (by decide +kernel) _ fun j => ?_
  blk_simp
  rw [after0_11]
  frame_out
  unfold k0_pay6
  frame_out
  refine (pay2_apply _ _ _ _ _).trans ?_
  unfold dw1Sum wide8 wide16 groupsFirst
  blk_point [iblk, V, idx]

/-- The result array `dw2`. -/
theorem arr12 (c : Dev nD) :
    (dats m 0 c).arrAt 12 cfg0.N = dw2Sum (m ((c : Thread nD τ).loc main_arg4)) (m ((c : Thread nD τ).loc main_arg5))
      (m ((c : Thread nD τ).loc main_arg0))
      (groupsFirst (m ((c : Thread nD τ).loc main_arg1))) := by
  refine (dats m 0 c).arrAt_eq_of_after_last 12 t0_0 (by decide +kernel) _ fun j => ?_
  blk_simp
  rw [after0_12]
  frame_out
  refine (pay3_apply _ _ _ _ _).trans ?_
  unfold dw2Sum wide8 groupsFirst
  blk_point [iblk, V, idx]

end Cert.Proof.Ref

end
-- ==== Proof.Tiles.lean ====
/-
  THE WIDENED SCRATCH. The kernel widens an fp8 block of 640 tokens tile by tile: 128 tokens × 128 columns at a time it
  multiplies the codes by their group's scales (a row of 128, broadcast and transposed) and stores the product in the
  scratch. This file states one tile and the list of all tiles once, for every block, and shows that a scratch that holds
  such a list holds the widened block: code times scale, index by index.
-/
module

public import proofs.«01_k».proof.Proof.Spec
public import proofs.«01_k».proof.Proof.Gen.KernelIdeal.Skeleton
public import Idealize.ShloMosaic.Lib.Pipeline.ReadBack

@[expose] public section

set_option maxRecDepth 16384

noncomputable section

namespace Cert.Proof.Ker

open Cert.KernelIdeal Cert.KernelIdeal.Gen Idealize.ShloMosaic
open scoped BigOperators

variable {φ : FTy}

/-- One widened tile: the codes times their scales, the row of scales broadcast over the columns and transposed. -/
def tile (h : φ.bits < FTy.bf16.bits) (x : FVec Ideal S1x128x128 φ) (s : FVec Ideal S1x1x128 .f32) : FVec Ideal S128x128 .bf16 :=
  shapeCast S128x128
    (mulf (extf .bf16 (shapeCast S128x128 x shapeCasts_S1x128x128_S128x128) h)
      (truncf .bf16 (transpose S128x128 [1, 0] (broadcastTo S128x128 (shapeCast S1x128 (shapeCast S1x128 s shapeCasts_S1x1x128_S1x128)
        shapeCasts_S1x128_S1x128) broadcasts_S1x128_S128x128) transposes_S128x128_p1_0_S128x128) bitsLt_bf16_f32))
    shapeCasts_S128x128_S128x128

/-- A tile at an index: the token's code times the token's scale. -/
theorem tile_apply (h : φ.bits < FTy.bf16.bits) (x : FVec Ideal S1x128x128 φ) (s : FVec Ideal S1x1x128 .f32) (i : S128x128.Idx) :
    tile h x s i = x (ix3 0 (i 0) (i 1)) * s (ix3 0 0 (i 0)) := by
  pointwise [tile]

/-! ### A list of tiles, in any array: tile `n` is tokens `128 (n % 5) …`, columns `128 (n / 5) …` -/

/-- What the scratch holds of an input block of width `128 g`: the code times the scale of its group. -/
def wideBlk {w g : ℕ} (hw : w = 128 * g) (X : I3 1 640 w → EReal) (σ : I3 1 g 640 → EReal) (r : Fin 640) (j : Fin w) : EReal :=
  X (ix3 0 r j) * σ (ix3 0 ⟨j.val / 128, by omega⟩ r)

/-- Tile `n` of a block of width `w`, stored in a scratch of width `W`. -/
def tilePiece {w g W : ℕ} (h : φ.bits < FTy.bf16.bits) (hw : w = 128 * g) (hW : w ≤ W)
    (X : FVec Ideal ⟨3, ![1, 640, w]⟩ φ) (σ : FVec Ideal ⟨3, ![1, g, 640]⟩ .f32) (n : ℕ) (hn : n < 5 * g) :
    View.Piece (Elt Ideal) ⟨2, ![640, W]⟩ .bf16 :=
  ⟨Rect.unit (s := ⟨2, ![640, W]⟩) ![128 * (n % 5), 128 * (n / 5)] S128x128.size
      (by intro a; match a with
        | ⟨0, _⟩ => show 128 * (n % 5) + 128 ≤ 640; omega
        | ⟨1, _⟩ => show 128 * (n / 5) + 128 ≤ W; omega),
    tile h
      (View.ld (Val := fun _ => Ideal φ) (e' := .f32) X (Rect.unit (s := ⟨3, ![1, 640, w]⟩) ![0, 128 * (n % 5), 128 * (n / 5)] S1x128x128.size
        (by intro a; match a with
          | ⟨0, _⟩ => show 0 + 1 ≤ 1; omega
          | ⟨1, _⟩ => show 128 * (n % 5) + 128 ≤ 640; omega
          | ⟨2, _⟩ => show 128 * (n / 5) + 128 ≤ w; omega)))
      (View.ld (Val := Elt Ideal) (e' := .f32) σ (Rect.unit (s := ⟨3, ![1, g, 640]⟩) ![0, n / 5, 128 * (n % 5)] S1x1x128.size
        (by intro a; match a with
          | ⟨0, _⟩ => show 0 + 1 ≤ 1; omega
          | ⟨1, _⟩ => show n / 5 + 1 ≤ g; omega
          | ⟨2, _⟩ => show 128 * (n % 5) + 128 ≤ 640; omega)))⟩

/-- The first `n` tiles, the last one first. -/
def tiles {w g W : ℕ} (h : φ.bits < FTy.bf16.bits) (hw : w = 128 * g) (hW : w ≤ W)
    (X : FVec Ideal ⟨3, ![1, 640, w]⟩ φ) (σ : FVec Ideal ⟨3, ![1, g, 640]⟩ .f32) :
    (n : ℕ) → n ≤ 5 * g → List (View.Piece (Elt Ideal) ⟨2, ![640, W]⟩ .bf16)
  | 0, _ => []
  | n + 1, hn => tilePiece h hw hW X σ n hn :: tiles h hw hW X σ n (Nat.le_of_succ_le hn)

theorem mem_tiles {w g W : ℕ} (h : φ.bits < FTy.bf16.bits) (hw : w = 128 * g) (hW : w ≤ W)
    (X : FVec Ideal ⟨3, ![1, 640, w]⟩ φ) (σ : FVec Ideal ⟨3, ![1, g, 640]⟩ .f32) (p : View.Piece (Elt Ideal) ⟨2, ![640, W]⟩ .bf16) :
    ∀ (n : ℕ) (hn : n ≤ 5 * g), p ∈ tiles h hw hW X σ n hn ↔ ∃ k, ∃ hk : k < n, p = tilePiece h hw hW X σ k (by omega)
  | 0, _ => by simp [tiles]
  | n + 1, hn => by
    rw [tiles, List.mem_cons, mem_tiles h hw hW X σ p n]
    constructor
    · rintro (rfl | ⟨k, hk, rfl⟩)
      · exact ⟨n, by omega, rfl⟩
      · exact ⟨k, by omega, rfl⟩
    · rintro ⟨k, hk, rfl⟩
      rcases Nat.lt_succ_iff_lt_or_eq.mp hk with hk | rfl
      · exact .inr ⟨k, hk, rfl⟩
      · exact .inl rfl

/-- A tile's element is the widened block's at the tile's place. -/
theorem tilePiece_apply {w g W : ℕ} (h : φ.bits < FTy.bf16.bits) (hw : w = 128 * g) (hW : w ≤ W)
    (X : FVec Ideal ⟨3, ![1, 640, w]⟩ φ) (σ : FVec Ideal ⟨3, ![1, g, 640]⟩ .f32) (n : ℕ) (hn : n < 5 * g)
    (x : (tilePiece h hw hW X σ n hn).1.shape.Idx) (r : Fin 640) (j : Fin w)
    (h0 : (((tilePiece h hw hW X σ n hn).1.emb x) 0 : ℕ) = r) (h1 : (((tilePiece h hw hW X σ n hn).1.emb x) 1 : ℕ) = j) :
    (tilePiece h hw hW X σ n hn).2 x = wideBlk hw X σ r j := by
  have hx0 : (x 0 : ℕ) < 128 := (x 0).isLt
  have hx1 : (x 1 : ℕ) < 128 := (x 1).isLt
  have e0 : 128 * (n % 5) + 1 * (x 0 : ℕ) = r := h0
  have e1 : 128 * (n / 5) + 1 * (x 1 : ℕ) = j := h1
  refine (tile_apply h _ _ x).trans ?_
  unfold wideBlk
  congr 1
  · refine View.ld_unit_apply_of (Val := fun _ => Ideal φ) (e := .f32) X _ _ _ _ _ fun a => ?_
    match a with
    | ⟨0, _⟩ => rfl
    | ⟨1, _⟩ => show (r : ℕ) = 128 * (n % 5) + (x 0 : ℕ); omega
    | ⟨2, _⟩ => show (j : ℕ) = 128 * (n / 5) + (x 1 : ℕ); omega
  · refine View.ld_unit_apply_of (Val := Elt Ideal) (e := .f32) σ _ _ _ _ _ fun a => ?_
    match a with
    | ⟨0, _⟩ => rfl
    | ⟨1, _⟩ => show (j : ℕ) / 128 = n / 5 + 0; omega
    | ⟨2, _⟩ => show (r : ℕ) = 128 * (n % 5) + (x 0 : ℕ); omega

/-- The widened block as contents of a scratch of any width: zero right of the block. -/
def wideExt {w g W : ℕ} (hw : w = 128 * g) (X : I3 1 640 w → EReal) (σ : I3 1 g 640 → EReal) :
    (⟨2, ![640, W]⟩ : Shape).Idx → Elt Ideal .bf16 :=
  fun y => if hj : (y 1 : ℕ) < w then wideBlk hw X σ ⟨y 0, (y 0).isLt⟩ ⟨y 1, hj⟩ else 0

/-- The canonical contents of all tiles stored over ANY earlier stores: the widened block, on the block's columns. -/
theorem canon_tiles_apply {w g W : ℕ} (h : φ.bits < FTy.bf16.bits) (hw : w = 128 * g) (hW : w ≤ W)
    (X : FVec Ideal ⟨3, ![1, 640, w]⟩ φ) (σ : FVec Ideal ⟨3, ![1, g, 640]⟩ .f32)
    (L : List (View.Piece (Elt Ideal) ⟨2, ![640, W]⟩ .bf16)) (y : (⟨2, ![640, W]⟩ : Shape).Idx) (r : Fin 640) (j : Fin w)
    (h0 : (y 0 : ℕ) = r) (h1 : (y 1 : ℕ) = j) :
    View.canon (tiles h hw hW X σ (5 * g) le_rfl ++ L) y = wideBlk hw X σ r j := by
  have key : ∀ p ∈ tiles h hw hW X σ (5 * g) le_rfl, ∀ x : p.1.shape.Idx,
      p.2 x = wideExt hw X σ (p.1.emb x) := by
    intro p hp x
    obtain ⟨k, hk, rfl⟩ := (mem_tiles h hw hW X σ p _ _).mp hp
    have hx1 : (x 1 : ℕ) < 128 := (x 1).isLt
    have e1 : (((tilePiece h hw hW X σ k hk).1.emb x) 1 : ℕ) = 128 * (k / 5) + 1 * (x 1 : ℕ) := rfl
    have hlt : (((tilePiece h hw hW X σ k hk).1.emb x) 1 : ℕ) < w := by omega
    unfold wideExt
    rw [dif_pos hlt]
    exact tilePiece_apply h hw hW X σ k hk x _ _ rfl rfl
  rw [View.canon_append_of_pieces _ L _ key y ?_]
  · unfold wideExt
    rw [dif_pos (h1 ▸ j.isLt)]
    congr 1 <;> exact Fin.ext (by assumption)
  · have hr := r.isLt
    have hj := j.isLt
    refine ⟨tilePiece h hw hW X σ ((y 0 : ℕ) / 128 + 5 * ((y 1 : ℕ) / 128)) (by omega), (mem_tiles h hw hW X σ _ _ _).mpr ⟨_, by omega, rfl⟩, ?_⟩
    unfold tilePiece
    rw [Rect.mem_set_unit]
    intro a
    match a with
    | ⟨0, _⟩ => show 128 * (((y 0 : ℕ) / 128 + 5 * ((y 1 : ℕ) / 128)) % 5) ≤ (y 0 : ℕ) ∧ (y 0 : ℕ) < 128 * (((y 0 : ℕ) / 128 + 5 * ((y 1 : ℕ) / 128)) % 5) + 128; omega
    | ⟨1, _⟩ => show 128 * (((y 0 : ℕ) / 128 + 5 * ((y 1 : ℕ) / 128)) / 5) ≤ (y 1 : ℕ) ∧ (y 1 : ℕ) < 128 * (((y 0 : ℕ) / 128 + 5 * ((y 1 : ℕ) / 128)) / 5) + 128; omega

end Cert.Proof.Ker

end
-- ==== Proof.Blocks.lean ====
/-
  WHAT ONE GRID POINT COMPUTES. At a grid point the kernel widens the point's blocks of `s` and `dy` into its two
  scratches and adds their product to `dw2`, then widens the blocks of `x` and `da` over them, adds their product to
  `dw1`, and writes the point's block of `dx`. The three payload lemmas are over ANY lists of stores that begin with the
  tiles of Tiles.lean; the theorems after them read the run's outputs at a point of either case.
-/
module

public import proofs.«01_k».proof.Proof.Tiles
public import proofs.«01_k».proof.Proof.Gen.KernelIdeal.Value

@[expose] public section

set_option maxRecDepth 65536

noncomputable section

namespace Cert.Proof.Ker

open Cert.KernelIdeal Cert.KernelIdeal.Gen Idealize.ShloMosaic Idealize.ShloMosaic.TcCoe Idealize.SL.Sem
open scoped BigOperators

/-- A load of the first `w` columns of a scratch whose latest stores are all the tiles of a block reads the widened block. -/
theorem readCov_tiles {φ : FTy} {w g W : ℕ} (h : φ.bits < FTy.bf16.bits) (hw : w = 128 * g) (hW : w ≤ W)
    (X : FVec Ideal ⟨3, ![1, 640, w]⟩ φ) (σ : FVec Ideal ⟨3, ![1, g, 640]⟩ .f32)
    {κ : Kind} {sp : Space} (v : View sig κ sp ⟨2, ![640, W]⟩ .bf16) (L R : List (View.Piece (Elt Ideal) ⟨2, ![640, W]⟩ .bf16))
    (hL : L = tiles h hw hW X σ (5 * g) le_rfl ++ R) (inb : ∀ a, (![0, 0] : Fin 2 → ℕ) a + (![640, w] : Fin 2 → ℕ) a ≤ (![640, W] : Fin 2 → ℕ) a)
    (y : I2 640 w) :
    v.readCov L (Rect.unit (s := ⟨2, ![640, W]⟩) ![0, 0] ![640, w] inb).toLoadRect y = wideBlk hw X σ (y 0) (y 1) := by
  subst hL
  rw [View.readCov_eq_canon']
  refine canon_tiles_apply h hw hW X σ R _ (y 0) (y 1) ?_ ?_
  · show 0 + 1 * (y 0 : ℕ) = y 0
    omega
  · show 0 + 1 * (y 1 : ℕ) = y 1
    omega

/-- The product of two widened blocks, summed over the tokens. -/
def prodBlk {w g w' g' : ℕ} (hw : w = 128 * g) (hw' : w' = 128 * g') (X : I3 1 640 w → EReal) (σ : I3 1 g 640 → EReal)
    (Y : I3 1 640 w' → EReal) (τ : I3 1 g' 640 → EReal) : I2 w w' → EReal :=
  fun y => ∑ t : Fin 640, wideBlk hw X σ t (y 0) * wideBlk hw' Y τ t (y 1)

/-- The block of `dx`: the widened gradient against the weights' codes, times the rows' scales. -/
def dxBlk (A : I3 1 640 2048 → EReal) (σ : I3 1 16 640 → EReal) (w : I2 1024 2048 → EReal) (ws : I2 1 1024 → EReal) :
    I3 1 640 1024 → EReal :=
  fun y => (∑ j : Fin 2048, wideBlk (g := 16) rfl A σ (y 1) j * w (ix2 (y 2) j)) * ws (ix2 0 (y 2))

theorem pay115_apply (v : Vec Ideal S1024x1024 .f32) (a b : Vec Ideal S640x1024 .bf16) (y : S1024x1024.Idx) :
    k0_pay115 v a b y = v y + ∑ t : Fin 640, a (ix2 t (y 0)) * b (ix2 t (y 1)) := by
  pointwise [k0_pay115]

theorem pay283_apply (v : Vec Ideal S1024x2048 .f32) (a : Vec Ideal S640x1024 .bf16) (b : Vec Ideal S640x2048 .bf16) (y : S1024x2048.Idx) :
    k0_pay283 v a b y = v y + ∑ t : Fin 640, a (ix2 t (y 0)) * b (ix2 t (y 1)) := by
  pointwise [k0_pay283]

theorem pay1_apply (a : Vec Ideal S640x2048 .bf16) (w : Vec Ideal S1024x2048 .fp8e4m3) (ws : Vec Ideal S1x1024 .f32) (y : S1x640x1024.Idx) :
    k0_pay1 (k0_pay284 a w ws) y = (∑ j : Fin 2048, a (ix2 (y 1) j) * w (ix2 (y 2) j)) * ws (ix2 0 (y 2)) := by
  pointwise [k0_pay1, k0_pay284]

/-- The `dw2` step over any stores that begin with the tiles of `s` and of `dy`. -/
theorem dw2_step (v v' : Vec Ideal S1024x1024 .f32) (hv : v' = v) {κ κ' : Kind} {sp sp' : Space}
    (s0 : View sig κ sp S640x1024 .bf16) (s1 : View sig κ' sp' S640x2048 .bf16)
    (L0 : List (View.Piece (Elt Ideal) S640x1024 .bf16)) (L1 : List (View.Piece (Elt Ideal) S640x2048 .bf16))
    (S : FVec Ideal S1x640x1024 .fp8e4m3) (σ : FVec Ideal S1x8x640 .f32) (D : FVec Ideal S1x640x1024 .fp8e5m2) (τ : FVec Ideal S1x8x640 .f32)
    (h0 : L0 = tiles (g := 8) bitsLt_fp8e4m3_bf16 rfl le_rfl S σ 40 le_rfl)
    (h1 : L1 = tiles (g := 8) bitsLt_fp8e5m2_bf16 rfl (by decide) D τ 40 le_rfl) (inb0) (inb1) :
    k0_pay115 v' (s0.readCov L0 (Rect.unit (s := S640x1024) ![0, 0] ![640, 1024] inb0).toLoadRect)
      (s1.readCov L1 (Rect.unit (s := S640x2048) ![0, 0] ![640, 1024] inb1).toLoadRect)
      = fun y => v y + prodBlk (g := 8) (g' := 8) rfl rfl S σ D τ y := by
  subst hv
  funext y
  rw [pay115_apply]
  unfold prodBlk
  congr 1
  refine Finset.sum_congr rfl fun t _ => ?_
  rw [readCov_tiles (g := 8) _ rfl _ S σ s0 L0 [] (by rw [List.append_nil]; exact h0) inb0,
    readCov_tiles (g := 8) _ rfl _ D τ s1 L1 [] (by rw [List.append_nil]; exact h1) inb1]
  rfl

/-- The `dw1` step over any stores that begin with the tiles of `x` and of `da`. -/
theorem dw1_step (v v' : Vec Ideal S1024x2048 .f32) (hv : v' = v) {κ κ' : Kind} {sp sp' : Space}
    (s0 : View sig κ sp S640x1024 .bf16) (s1 : View sig κ' sp' S640x2048 .bf16)
    (L0 : List (View.Piece (Elt Ideal) S640x1024 .bf16)) (L1 : List (View.Piece (Elt Ideal) S640x2048 .bf16))
    (X : FVec Ideal S1x640x1024 .fp8e4m3) (σ : FVec Ideal S1x8x640 .f32) (A : FVec Ideal S1x640x2048 .fp8e5m2) (τ : FVec Ideal S1x16x640 .f32)
    (h0 : ∃ R, L0 = tiles (g := 8) bitsLt_fp8e4m3_bf16 rfl le_rfl X σ 40 le_rfl ++ R)
    (h1 : ∃ R, L1 = tiles (g := 16) bitsLt_fp8e5m2_bf16 rfl le_rfl A τ 80 le_rfl ++ R) (inb0) (inb1) :
    k0_pay283 v' (s0.readCov L0 (Rect.unit (s := S640x1024) ![0, 0] ![640, 1024] inb0).toLoadRect)
      (s1.readCov L1 (Rect.unit (s := S640x2048) ![0, 0] ![640, 2048] inb1).toLoadRect)
      = fun y => v y + prodBlk (g := 8) (g' := 16) rfl rfl X σ A τ y := by
  subst hv
  obtain ⟨R0, h0⟩ := h0
  obtain ⟨R1, h1⟩ := h1
  funext y
  rw [pay283_apply]
  unfold prodBlk
  congr 1
  refine Finset.sum_congr rfl fun t _ => ?_
  rw [readCov_tiles (g := 8) _ rfl _ X σ s0 L0 R0 h0 inb0, readCov_tiles (g := 16) _ rfl _ A τ s1 L1 R1 h1 inb1]
  rfl

/-- The block of `dx` over any stores that begin with the tiles of `da`. -/
theorem dx_step {κ' : Kind} {sp' : Space} (s1 : View sig κ' sp' S640x2048 .bf16)
    (L1 : List (View.Piece (Elt Ideal) S640x2048 .bf16))
    (A : FVec Ideal S1x640x2048 .fp8e5m2) (τ : FVec Ideal S1x16x640 .f32) (w w' : Vec Ideal S1024x2048 .fp8e4m3) (ws ws' : Vec Ideal S1x1024 .f32)
    (hw : w' = w) (hws : ws' = ws) (h1 : ∃ R, L1 = tiles (g := 16) bitsLt_fp8e5m2_bf16 rfl le_rfl A τ 80 le_rfl ++ R) (inb1) :
    k0_pay1 (k0_pay284 (s1.readCov L1 (Rect.unit (s := S640x2048) ![0, 0] ![640, 2048] inb1).toLoadRect) w' ws') = dxBlk A τ w ws := by
  subst hw hws
  obtain ⟨R1, h1⟩ := h1
  funext y
  rw [pay1_apply]
  unfold dxBlk
  congr 1
  refine Finset.sum_congr rfl fun t _ => ?_
  rw [readCov_tiles (g := 16) _ rfl _ A τ s1 L1 R1 h1 inb1]
  rfl

end Cert.Proof.Ker

end
-- ==== Proof.Points.lean ====
/-
  THE RUN'S OUTPUTS AT A POINT. The first point resets the two weight gradients and adds its products to zero; a later
  point adds its products to what the point before left; every point writes its own block of `dx`.
-/
module

public import proofs.«01_k».proof.Proof.Blocks

@[expose] public section

set_option maxRecDepth 65536
set_option maxHeartbeats 4000000

noncomputable section

namespace Cert.Proof.Ker

open Cert.KernelIdeal Cert.KernelIdeal.Gen Idealize.ShloMosaic Idealize.ShloMosaic.TcCoe Idealize.SL.Sem

variable (m : (ℓ : Loc nD τ sig) → Buf (Elt Ideal) ℓ)

/-- The `dw2` array after the first point: zero plus the product. -/
theorem dw2_A (c : Dev nD) (t : Fin cfg0.N) (h : t.val % 3 = 0) :
    (outsAt0 m c t.val t.isLt).2.2 = fun y => 0
      + prodBlk (g := 8) (g' := 8) rfl rfl (iblk m c 4 t) (iblk m c 5 t) (iblk m c 0 t) (iblk m c 1 t) y := by
  rw [outsAt0_A m c t h]
  dsimp only
  unfold out0_A_12
  rw [View.read_writes_junk_eq_canon]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread, (hs0_9 t).read_unread, (hs0_11 t).read_unread, (hs0_12 t).read_unread]
  refine (View.canon_cons_unit_lit _ _ _ (by decide)).trans ?_
  refine dw2_step (fun _ => (0 : EReal)) _ ?_ _ _ _ _ _ _ _ _ ?_ ?_ _ _
  · frame_out
    funext y
    pointwise [k0_pay3]
  · rfl
  · rfl

/-- The `dw2` array after a later point: what the point before left plus the product of the point's blocks of `s` and `dy`. -/
theorem dw2_B (c : Dev nD) (t : Fin cfg0.N) (h : ¬ t.val % 3 = 0) :
    (outsAt0 m c t.val t.isLt).2.2 = fun y => (outsAt0 m c (t.val - 1) (Nat.lt_of_le_of_lt (Nat.sub_le _ _) t.isLt)).2.2 y
      + prodBlk (g := 8) (g' := 8) rfl rfl (iblk m c 4 t) (iblk m c 5 t) (iblk m c 0 t) (iblk m c 1 t) y := by
  rw [outsAt0_B m c t h]
  dsimp only
  unfold out0_B_12
  rw [View.read_writes_junk_eq_canon]
  unfold kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread, (hs0_9 t).read_unread, (hs0_11 t).read_unread, (hs0_12 t).read_unread]
  refine (View.canon_cons_unit_lit _ _ _ (by decide)).trans ?_
  refine dw2_step _ _ ?_ _ _ _ _ _ _ _ _ ?_ ?_ _ _
  · frame_out
  · rfl
  · rfl

/-- The `dw1` array after the first point: zero plus the product. -/
theorem dw1_A (c : Dev nD) (t : Fin cfg0.N) (h : t.val % 3 = 0) :
    (outsAt0 m c t.val t.isLt).2.1 = fun y => 0
      + prodBlk (g := 8) (g' := 16) rfl rfl (iblk m c 2 t) (iblk m c 3 t) (iblk m c 6 t) (iblk m c 7 t) y := by
  rw [outsAt0_A m c t h]
  dsimp only
  unfold out0_A_11
  rw [View.read_writes_junk_eq_canon]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread, (hs0_9 t).read_unread, (hs0_11 t).read_unread, (hs0_12 t).read_unread]
  refine (View.canon_cons_unit_lit _ _ _ (by decide)).trans ?_
  refine dw1_step (fun _ => (0 : EReal)) _ ?_ _ _ _ _ _ _ _ _ ?_ ?_ _ _
  · frame_out
    funext y
    pointwise [k0_pay2]
  · exact ⟨_, rfl⟩
  · exact ⟨_, rfl⟩

/-- The `dw1` array after a later point: what the point before left plus the product of the point's blocks of `x` and `da`. -/
theorem dw1_B (c : Dev nD) (t : Fin cfg0.N) (h : ¬ t.val % 3 = 0) :
    (outsAt0 m c t.val t.isLt).2.1 = fun y => (outsAt0 m c (t.val - 1) (Nat.lt_of_le_of_lt (Nat.sub_le _ _) t.isLt)).2.1 y
      + prodBlk (g := 8) (g' := 16) rfl rfl (iblk m c 2 t) (iblk m c 3 t) (iblk m c 6 t) (iblk m c 7 t) y := by
  rw [outsAt0_B m c t h]
  dsimp only
  unfold out0_B_11
  rw [View.read_writes_junk_eq_canon]
  unfold kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread, (hs0_9 t).read_unread, (hs0_11 t).read_unread, (hs0_12 t).read_unread]
  refine (View.canon_cons_unit_lit _ _ _ (by decide)).trans ?_
  refine dw1_step _ _ ?_ _ _ _ _ _ _ _ _ ?_ ?_ _ _
  · frame_out
  · exact ⟨_, rfl⟩
  · exact ⟨_, rfl⟩

/-- The point's block of `dx`, at the first point. -/
theorem dx_A (c : Dev nD) (t : Fin cfg0.N) (h : t.val % 3 = 0) :
    (outsAt0 m c t.val t.isLt).1 = dxBlk (iblk m c 6 t) (iblk m c 7 t) (iblk m c 8 t) (iblk m c 9 t) := by
  rw [outsAt0_A m c t h]
  dsimp only
  unfold out0_A_10
  rw [View.read_writes_junk_eq_canon]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread, (hs0_9 t).read_unread, (hs0_11 t).read_unread, (hs0_12 t).read_unread]
  refine (View.canon_cons_unit_lit _ _ _ (by decide)).trans ?_
  refine dx_step _ _ _ _ _ _ _ _ ?_ ?_ ?_ _
  · frame_out
  · frame_out
  · exact ⟨_, rfl⟩

/-- The point's block of `dx`, at a later point. -/
theorem dx_B (c : Dev nD) (t : Fin cfg0.N) (h : ¬ t.val % 3 = 0) :
    (outsAt0 m c t.val t.isLt).1 = dxBlk (iblk m c 6 t) (iblk m c 7 t) (iblk m c 8 t) (iblk m c 9 t) := by
  rw [outsAt0_B m c t h]
  dsimp only
  unfold out0_B_10
  rw [View.read_writes_junk_eq_canon]
  unfold kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread, (hs0_9 t).read_unread, (hs0_11 t).read_unread, (hs0_12 t).read_unread]
  refine (View.canon_cons_unit_lit _ _ _ (by decide)).trans ?_
  refine dx_step _ _ _ _ _ _ _ _ ?_ ?_ ?_ _
  · frame_out
  · frame_out
  · exact ⟨_, rfl⟩

end Cert.Proof.Ker

end
-- ==== Proof.KerValue.lean ====
/-
  WHAT THE KERNEL'S ARRAYS HOLD. The blocks of the ten inputs at coordinates (the host transposes the scales of `dy` and
  `x` and makes the weights' scales a row before the launch), and the three result arrays after the run: the sums of
  Spec.lean. `dx` is written block by block; the two weight gradients add up over the three points.
-/
module

public import proofs.«01_k».proof.Proof.Points

@[expose] public section

set_option maxRecDepth 16384

noncomputable section

namespace Cert.Proof.Ker

open Cert.KernelIdeal Cert.KernelIdeal.Gen Idealize.ShloMosaic Idealize.ShloMosaic.TcCoe Idealize.SL.Sem
open scoped BigOperators

variable (m : (ℓ : Loc nD τ sig) → Buf (Elt Ideal) ℓ)

/-- Which block of each window a grid point reads or writes. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0]
    ∧ win0_6.index t = ![t.val, 0, 0] ∧ win0_7.index t = ![t.val, 0, 0] ∧ win0_8.index t = ![0, 0]
    ∧ win0_9.index t = ![0, 0] ∧ win0_10.index t = ![t.val, 0, 0] :=
  (by decide +kernel : ∀ t : Fin grid0.N, _)

/-- A grid point as the number of its block of 640 tokens. -/
def blkOf (t : Fin cfg0.N) : Fin 3 := ⟨t.val, lt_of_lt_of_eq t.isLt N_0⟩

/-! ### The input blocks at coordinates -/

theorem blk0 (c : Dev nD) (t : Fin cfg0.N) (r : Fin 640) (j : Fin 1024) :
    iblk m c 0 t (ix3 0 r j) = m ((c : Thread nD τ).loc main_arg0) (ix3 (blkOf t) r j) := by
  blk_point [iblk, V, idx t, blkOf]

theorem blk1 (c : Dev nD) (t : Fin cfg0.N) (g : Fin 8) (r : Fin 640) :
    iblk m c 1 t (ix3 0 g r) = m ((c : Thread nD τ).loc main_arg1) (ix3 (blkOf t) r g) := by
  blk_point [iblk, V, idx t, blkOf]

theorem blk2 (c : Dev nD) (t : Fin cfg0.N) (r : Fin 640) (j : Fin 1024) :
    iblk m c 2 t (ix3 0 r j) = m ((c : Thread nD τ).loc main_arg2) (ix3 (blkOf t) r j) := by
  blk_point [iblk, V, idx t, blkOf]

theorem blk3 (c : Dev nD) (t : Fin cfg0.N) (g : Fin 8) (r : Fin 640) :
    iblk m c 3 t (ix3 0 g r) = m ((c : Thread nD τ).loc main_arg3) (ix3 (blkOf t) r g) := by
  blk_point [iblk, V, idx t, blkOf]

theorem blk4 (c : Dev nD) (t : Fin cfg0.N) (r : Fin 640) (j : Fin 1024) :
    iblk m c 4 t (ix3 0 r j) = m ((c : Thread nD τ).loc main_arg4) (ix3 (blkOf t) r j) := by
  blk_point [iblk, V, idx t, blkOf]

theorem blk5 (c : Dev nD) (t : Fin cfg0.N) (g : Fin 8) (r : Fin 640) :
    iblk m c 5 t (ix3 0 g r) = m ((c : Thread nD τ).loc main_arg5) (ix3 (blkOf t) g r) := by
  blk_point [iblk, V, idx t, blkOf]

theorem blk6 (c : Dev nD) (t : Fin cfg0.N) (r : Fin 640) (j : Fin 2048) :
    iblk m c 6 t (ix3 0 r j) = m ((c : Thread nD τ).loc main_arg6) (ix3 (blkOf t) r j) := by
  blk_point [iblk, V, idx t, blkOf]

theorem blk7 (c : Dev nD) (t : Fin cfg0.N) (g : Fin 16) (r : Fin 640) :
    iblk m c 7 t (ix3 0 g r) = m ((c : Thread nD τ).loc main_arg7) (ix3 (blkOf t) g r) := by
  blk_point [iblk, V, idx t, blkOf]

theorem blk8 (c : Dev nD) (t : Fin cfg0.N) (i : Fin 1024) (j : Fin 2048) :
    iblk m c 8 t (ix2 i j) = m ((c : Thread nD τ).loc main_arg8) (ix2 i j) := by
  blk_point [iblk, V, idx t, blkOf]

theorem blk9 (c : Dev nD) (t : Fin cfg0.N) (i : Fin 1024) :
    iblk m c 9 t (ix2 0 i) = m ((c : Thread nD τ).loc main_arg9) (ix1 i) := by
  blk_point [iblk, V, idx t, blkOf]

/-! ### The result arrays -/

/-- What point `t` adds to `dw2`, over the arguments. -/
theorem prod2_apply (c : Dev nD) (t : Fin cfg0.N) (y : I2 1024 1024) :
    prodBlk (g := 8) (g' := 8) rfl rfl (iblk m c 4 t) (iblk m c 5 t) (iblk m c 0 t) (iblk m c 1 t) y
      = ∑ r : Fin 640, wide8 (m ((c : Thread nD τ).loc main_arg4)) (m ((c : Thread nD τ).loc main_arg5)) (blkOf t) r (y 0)
          * wide8 (m ((c : Thread nD τ).loc main_arg0)) (groupsFirst (m ((c : Thread nD τ).loc main_arg1))) (blkOf t) r (y 1) := by
  unfold prodBlk wideBlk wide8
  refine Finset.sum_congr rfl fun r _ => ?_
  exact congrArg₂ (fun a b : EReal => a * b) (congrArg₂ (fun a b : EReal => a * b) (blk4 m c t r (y 0)) (blk5 m c t (grp8 (y 0)) r))
    (congrArg₂ (fun a b : EReal => a * b) (blk0 m c t r (y 1)) (blk1 m c t (grp8 (y 1)) r))

/-- What point `t` adds to `dw1`. -/
theorem prod1_apply (c : Dev nD) (t : Fin cfg0.N) (y : I2 1024 2048) :
    prodBlk (g := 8) (g' := 16) rfl rfl (iblk m c 2 t) (iblk m c 3 t) (iblk m c 6 t) (iblk m c 7 t) y
      = ∑ r : Fin 640, wide8 (m ((c : Thread nD τ).loc main_arg2)) (groupsFirst (m ((c : Thread nD τ).loc main_arg3))) (blkOf t) r (y 0)
          * wide16 (m ((c : Thread nD τ).loc main_arg6)) (m ((c : Thread nD τ).loc main_arg7)) (blkOf t) r (y 1) := by
  unfold prodBlk wideBlk wide8 wide16
  refine Finset.sum_congr rfl fun r _ => ?_
  exact congrArg₂ (fun a b : EReal => a * b) (congrArg₂ (fun a b : EReal => a * b) (blk2 m c t r (y 0)) (blk3 m c t (grp8 (y 0)) r))
    (congrArg₂ (fun a b : EReal => a * b) (blk6 m c t r (y 1)) (blk7 m c t (grp16 (y 1)) r))

/-- The block of `dx` that point `t` writes. -/
theorem dxBlk_apply (c : Dev nD) (t : Fin cfg0.N) (y : I3 1 640 1024) :
    dxBlk (iblk m c 6 t) (iblk m c 7 t) (iblk m c 8 t) (iblk m c 9 t) y
      = dxSum (m ((c : Thread nD τ).loc main_arg6)) (m ((c : Thread nD τ).loc main_arg7))
          (m ((c : Thread nD τ).loc main_arg8)) (m ((c : Thread nD τ).loc main_arg9)) (ix3 (blkOf t) (y 1) (y 2)) := by
  unfold dxBlk dxSum wideBlk wide16
  refine congrArg₂ (fun a b : EReal => a * b) (Finset.sum_congr rfl fun j _ => ?_) (blk9 m c t (y 2))
  exact congrArg₂ (fun a b : EReal => a * b) (congrArg₂ (fun a b : EReal => a * b) (blk6 m c t (y 1) j) (blk7 m c t (grp16 j) (y 1))) (blk8 m c t (y 2) j)

/-- The result array `dx`. -/
theorem arr10 (c : Dev nD) :
    (dats m 0 c).arrAt 10 cfg0.N = dxSum (m ((c : Thread nD τ).loc main_arg6)) (m ((c : Thread nD τ).loc main_arg7))
      (m ((c : Thread nD τ).loc main_arg8)) (m ((c : Thread nD τ).loc main_arg9)) := by
  refine (dats m 0 c).arrAt_eq_of_covers 10 _ (by decide +kernel) fun t hf y => ?_
  blk_simp
  rw [after0_10]
  have e : (outsAt0 m c t.val t.isLt).1 = dxBlk (iblk m c 6 t) (iblk m c 7 t) (iblk m c 8 t) (iblk m c 9 t) := by
    by_cases h : t.val % 3 = 0
    · exact dx_A m c t h
    · exact dx_B m c t h
  rw [e, dxBlk_apply]
  congr 1
  blk_ext [idx t, blkOf]

/-- The `dw1` accumulator after the last point: the three points' products. -/
theorem acc11 (c : Dev nD) (j : I2 1024 2048) :
    (outsAt0 m c t0_2.val t0_2.isLt).2.1 j = ∑ t : Fin cfg0.N, prodBlk (g := 8) (g' := 16) rfl rfl (iblk m c 2 t) (iblk m c 3 t) (iblk m c 6 t) (iblk m c 7 t) j := by
  have := Pipeline.eq_sum_fin_of_reset_step_apply_last (M := EReal) (ι := I2 1024 2048) (fun n h => (outsAt0 m c n h).2.1) 3 (fun _ => 0)
    (fun t y => prodBlk (g := 8) (g' := 16) rfl rfl (iblk m c 2 t) (iblk m c 3 t) (iblk m c 6 t) (iblk m c 7 t) y)
    (fun t h j => congrFun (dw1_A m c t h) j) (fun t h j => congrFun (dw1_B m c t h) j) (le_of_eq N_0) t0_2 rfl j
  rw [zero_add] at this
  exact this

/-- The result array `dw1`. -/
theorem arr11 (c : Dev nD) :
    (dats m 0 c).arrAt 11 cfg0.N = dw1Sum (m ((c : Thread nD τ).loc main_arg2))
      (groupsFirst (m ((c : Thread nD τ).loc main_arg3)))
      (m ((c : Thread nD τ).loc main_arg6)) (m ((c : Thread nD τ).loc main_arg7)) := by
  refine (dats m 0 c).arrAt_eq_of_after_last 11 t0_2 (by decide +kernel) _ fun j => ?_
  blk_simp
  rw [after0_11]
  refine (acc11 m c j).trans ?_
  refine Finset.sum_congr rfl fun t _ => ?_
  exact prod1_apply m c t j

/-- The `dw2` accumulator after the last point: the three points' products. -/
theorem acc12 (c : Dev nD) (j : I2 1024 1024) :
    (outsAt0 m c t0_2.val t0_2.isLt).2.2 j = ∑ t : Fin cfg0.N, prodBlk (g := 8) (g' := 8) rfl rfl (iblk m c 4 t) (iblk m c 5 t) (iblk m c 0 t) (iblk m c 1 t) j := by
  have := Pipeline.eq_sum_fin_of_reset_step_apply_last (M := EReal) (ι := I2 1024 1024) (fun n h => (outsAt0 m c n h).2.2) 3 (fun _ => 0)
    (fun t y => prodBlk (g := 8) (g' := 8) rfl rfl (iblk m c 4 t) (iblk m c 5 t) (iblk m c 0 t) (iblk m c 1 t) y)
    (fun t h j => congrFun (dw2_A m c t h) j) (fun t h j => congrFun (dw2_B m c t h) j) (le_of_eq N_0) t0_2 rfl j
  rw [zero_add] at this
  exact this

/-- The result array `dw2`. -/
theorem arr12 (c : Dev nD) :
    (dats m 0 c).arrAt 12 cfg0.N = dw2Sum (m ((c : Thread nD τ).loc main_arg4)) (m ((c : Thread nD τ).loc main_arg5))
      (m ((c : Thread nD τ).loc main_arg0))
      (groupsFirst (m ((c : Thread nD τ).loc main_arg1))) := by
  refine (dats m 0 c).arrAt_eq_of_after_last 12 t0_2 (by decide +kernel) _ fun j => ?_
  blk_simp
  rw [after0_12]
  refine (acc12 m c j).trans ?_
  refine Finset.sum_congr rfl fun t _ => ?_
  exact prod2_apply m c t j

end Cert.Proof.Ker

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.RefValue
public import proofs.«01_k».proof.Proof.KerValue
public import Idealize.ShloMosaic.Adequacy
public import Idealize.ShloMosaic.Init

@[expose] public section

noncomputable section

namespace Cert.Proof

open Idealize.ShloMosaic Idealize.SL.Sem Cert.Kernel

/-- The kernel's three results are the sums of Spec.lean over its arguments, the reference's are the same sums over its
    own, and the arguments agree. -/
theorem equal : Cert.algebraic_KernelIdeal_ReferenceIdeal := by
  intro m ρ m' ρ' _ hargs
  refine ⟨fun c => (Cert.KernelIdeal.Gen.dats m 0 c).arrAt 10 Cert.KernelIdeal.cfg0.N,
    fun c => (Cert.KernelIdeal.Gen.dats m 0 c).arrAt 11 Cert.KernelIdeal.cfg0.N,
    fun c => (Cert.KernelIdeal.Gen.dats m 0 c).arrAt 12 Cert.KernelIdeal.cfg0.N,
    Cert.KernelIdeal.Value.run_blocks (F := Ideal) m ρ, ?_⟩
  refine (θ_run Cert.ReferenceIdeal.defs _ _).mono (fun r h c => ?_) (Cert.ReferenceIdeal.Value.run_blocks (F := Ideal) m' ρ')
  obtain ⟨r0, r1, r2, rest⟩ := h c
  obtain ⟨h0, h1, h2, h3, h4, h5, h6, h7, h8, h9⟩ := hargs c
  refine ⟨r0.trans ?_, r1.trans ?_, r2.trans ?_, rest⟩
  · refine (Ref.arr10 m' c).trans (Eq.trans ?_ (Ker.arr10 m c).symm)
    rw [h6, h7, h8, h9]
  · refine (Ref.arr11 m' c).trans (Eq.trans ?_ (Ker.arr11 m c).symm)
    rw [h2, h3, h6, h7]
  · refine (Ref.arr12 m' c).trans (Eq.trans ?_ (Ker.arr12 m c).symm)
    rw [h4, h5, h0, h1]

/-- The three programs end with every counter at zero and their arguments unchanged; the idealised kernel is the kernel's own
    program; and the idealised kernel and reference compute equal results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, equal⟩

end Cert.Proof

end
